-- ==== Defs.lean ====
def Pre_Kernel (m : (ℓ : Loc Cert.Kernel.nD Cert.Kernel.τ Cert.Kernel.sig) → Buf (Elt Bits) ℓ) : Prop :=
  True

def Pre_Kernel_none_wraps [hPre_none_wraps : Cert.Pre_none_wraps.Facts] (m : (ℓ : Loc Cert.Kernel.nD Cert.Kernel.τ Cert.Kernel.sig) → Buf (Elt Bits) ℓ) : Prop :=
  ∀ c : Dev Cert.Kernel.nD,
    (Cert.Pre_none_wraps.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_none_wraps [hPre_none_wraps : Cert.Pre_none_wraps.Facts] (m : (ℓ : Loc Cert.KernelIdeal.nD Cert.KernelIdeal.τ Cert.KernelIdeal.sig) → Buf (Elt Ideal) ℓ) : Prop :=
  ∀ c : Dev Cert.KernelIdeal.nD,
    (Cert.Pre_none_wraps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference (m : (ℓ : Loc Cert.Reference.nD Cert.Reference.τ Cert.Reference.sig) → Buf (Elt Bits) ℓ) : Prop :=
  True

def Pre_Reference_none_wraps [hPre_none_wraps : Cert.Pre_none_wraps.Facts] (m : (ℓ : Loc Cert.Reference.nD Cert.Reference.τ Cert.Reference.sig) → Buf (Elt Bits) ℓ) : Prop :=
  ∀ c : Dev Cert.Reference.nD,
    (Cert.Pre_none_wraps.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_none_wraps [hPre_none_wraps : Cert.Pre_none_wraps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_none_wraps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_none_wraps [hKernel : Cert.Kernel.Facts] [hPre_none_wraps : Cert.Pre_none_wraps.Facts] : Prop :=
  ∀ (m : (ℓ : Loc Cert.Kernel.nD Cert.Kernel.τ Cert.Kernel.sig) → Buf (Elt Bits) ℓ) (g : Dev Cert.Kernel.nD → PrngReg), Pre_Kernel_none_wraps m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_none_wraps [hKernelIdeal : Cert.KernelIdeal.Facts] [hPre_none_wraps : Cert.Pre_none_wraps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none_wraps m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_none_wraps [hReference : Cert.Reference.Facts] [hPre_none_wraps : Cert.Pre_none_wraps.Facts] : Prop :=
  ∀ (m : (ℓ : Loc Cert.Reference.nD Cert.Reference.τ Cert.Reference.sig) → Buf (Elt Bits) ℓ) (g : Dev Cert.Reference.nD → PrngReg), Pre_Reference_none_wraps m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_none_wraps [hReferenceIdeal : Cert.ReferenceIdeal.Facts] [hPre_none_wraps : Cert.Pre_none_wraps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_none_wraps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def bitexact_Kernel_Reference_pre_none_wraps [hKernel : Cert.Kernel.Facts] [hReference : Cert.Reference.Facts] [hPre_none_wraps : Cert.Pre_none_wraps.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_none_wraps m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v10)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v10) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal_pre_none_wraps [hKernelIdeal : Cert.KernelIdeal.Facts] [hReferenceIdeal : Cert.ReferenceIdeal.Facts] [hPre_none_wraps : Cert.Pre_none_wraps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_none_wraps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReference : Cert.Reference.Facts) (hReferenceIdeal : Cert.ReferenceIdeal.Facts) (hPre_none_wraps : Cert.Pre_none_wraps.Facts),
    quiescent_Kernel (hKernel := hKernel)
    ∧ quiescent_Kernel_pre_none_wraps (hKernel := hKernel) (hPre_none_wraps := hPre_none_wraps)
    ∧ quiescent_KernelIdeal (hKernelIdeal := hKernelIdeal)
    ∧ quiescent_KernelIdeal_pre_none_wraps (hKernelIdeal := hKernelIdeal) (hPre_none_wraps := hPre_none_wraps)
    ∧ quiescent_Reference (hReference := hReference)
    ∧ quiescent_Reference_pre_none_wraps (hReference := hReference) (hPre_none_wraps := hPre_none_wraps)
    ∧ quiescent_ReferenceIdeal (hReferenceIdeal := hReferenceIdeal)
    ∧ quiescent_ReferenceIdeal_pre_none_wraps (hReferenceIdeal := hReferenceIdeal) (hPre_none_wraps := hPre_none_wraps)
    ∧ preserves_Kernel_KernelIdeal
    ∧ bitexact_Kernel_Reference_pre_none_wraps (hKernel := hKernel) (hReference := hReference) (hPre_none_wraps := hPre_none_wraps)
    ∧ algebraic_KernelIdeal_ReferenceIdeal_pre_none_wraps (hKernelIdeal := hKernelIdeal) (hReferenceIdeal := hReferenceIdeal) (hPre_none_wraps := hPre_none_wraps)
-- ==== Pre_none_wraps.lean ====
abbrev S5x5 : Shape := ⟨2, ![5, 5]⟩
abbrev S5 : Shape := ⟨1, ![5]⟩
abbrev S_ : Shape := ⟨0, ![]⟩

class Facts : Prop where
  bcast_S_S5 : S_.BroadcastsInDim S5 (![] : Fin 0 → Fin S5.rank)

variable [Facts]

def fn {F : FTy → Type} [FloatOps F] (main_arg0 : FVec F S5x5 .f32) (main_arg1 : FVec F S5x5 .f32) (main_arg2 : IVec S5 32) : IVec S5 1 :=
  let main_c : IVec S_ 32 := constantI S_ 32 0#32
  let main_v0 : IVec S5 32 := broadcastInDim S5 ![] bcast_S_S5 main_c
  let main_v1 : IVec S5 1 := cmpi .sge main_arg2 main_v0
  let main_c_0 : IVec S_ 32 := constantI S_ 32 4294967291#32
  let main_v2 : IVec S5 32 := broadcastInDim S5 ![] bcast_S_S5 main_c_0
  let main_v3 : IVec S5 1 := cmpi .slt main_arg2 main_v2
  let main_v4 : IVec S5 1 := ori main_v1 main_v3
  main_v4
-- ==== Kernel.lean ====
abbrev S5x5 : Shape := ⟨2, ![5, 5]⟩
abbrev S5 : Shape := ⟨1, ![5]⟩
abbrev S_ : Shape := ⟨0, ![]⟩
abbrev S5x16 : Shape := ⟨2, ![5, 16]⟩
abbrev S1 : Shape := ⟨1, ![1]⟩
abbrev S16 : Shape := ⟨1, ![16]⟩
abbrev S1x16 : Shape := ⟨2, ![1, 16]⟩

abbrev nBuf : Table → Nat
  | .hbm => 20
  | .local .scVector .vmem => 3
  | _ => 0

abbrev bufTy : (tb : Table) → Fin (nBuf tb) → BufTy
  | .hbm, ⟨0, _⟩ => ⟨S5x5, .f32⟩
  | .hbm, ⟨1, _⟩ => ⟨S5x5, .f32⟩
  | .hbm, ⟨2, _⟩ => ⟨S5, .i32⟩
  | .hbm, ⟨3, _⟩ => ⟨S_, .f32⟩
  | .hbm, ⟨4, _⟩ => ⟨S5x16, .f32⟩
  | .hbm, ⟨5, _⟩ => ⟨S_, .i32⟩
  | .hbm, ⟨6, _⟩ => ⟨S1, .i32⟩
  | .hbm, ⟨7, _⟩ => ⟨S5x16, .f32⟩
  | .hbm, ⟨8, _⟩ => ⟨S_, .f32⟩
  | .hbm, ⟨9, _⟩ => ⟨S5x16, .f32⟩
  | .hbm, ⟨10, _⟩ => ⟨S_, .i32⟩
  | .hbm, ⟨11, _⟩ => ⟨S1, .i32⟩
  | .hbm, ⟨12, _⟩ => ⟨S5x16, .f32⟩
  | .hbm, ⟨13, _⟩ => ⟨S_, .i32⟩
  | .hbm, ⟨14, _⟩ => ⟨S16, .i32⟩
  | .hbm, ⟨15, _⟩ => ⟨S_, .i32⟩
  | .hbm, ⟨16, _⟩ => ⟨S1, .i32⟩
  | .hbm, ⟨17, _⟩ => ⟨S16, .i32⟩
  | .hbm, ⟨18, _⟩ => ⟨S5x16, .f32⟩
  | .hbm, ⟨19, _⟩ => ⟨S5x5, .f32⟩
  | .local .scVector .vmem, ⟨0, _⟩ => ⟨S5x16, .f32⟩
  | .local .scVector .vmem, ⟨1, _⟩ => ⟨S5x16, .f32⟩
  | .local .scVector .vmem, ⟨2, _⟩ => ⟨S16, .i32⟩
  | _, _ => ⟨S5x5, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v2_scv : Ref sig .scVector := ⟨.hbm, 7, rfl⟩
abbrev main_v5_scv : Ref sig .scVector := ⟨.hbm, 12, rfl⟩
abbrev main_v8_scv : Ref sig .scVector := ⟨.hbm, 17, rfl⟩
abbrev main_v9_scv : Ref sig .scVector := ⟨.hbm, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S5x5 : Shape := ⟨2, ![5, 5]⟩
abbrev S5 : Shape := ⟨1, ![5]⟩
abbrev S_ : Shape := ⟨0, ![]⟩
abbrev S5x1 : Shape := ⟨2, ![5, 1]⟩

abbrev nBuf : Space → Nat
  | .hbm => 12
  | .vmem => 0
  | .smem => 0
  | _ => 0

abbrev bufTy : (tb : Table) → Fin (tcTables nBuf tb) → BufTy
  | .hbm, ⟨0, _⟩ => ⟨S5x5, .f32⟩
  | .hbm, ⟨1, _⟩ => ⟨S5x5, .f32⟩
  | .hbm, ⟨2, _⟩ => ⟨S5, .i32⟩
  | .hbm, ⟨3, _⟩ => ⟨S_, .i32⟩
  | .hbm, ⟨4, _⟩ => ⟨S5, .i32⟩
  | .hbm, ⟨5, _⟩ => ⟨S5, .i1⟩
  | .hbm, ⟨6, _⟩ => ⟨S_, .i32⟩
  | .hbm, ⟨7, _⟩ => ⟨S5, .i32⟩
  | .hbm, ⟨8, _⟩ => ⟨S5, .i32⟩
  | .hbm, ⟨9, _⟩ => ⟨S5, .i32⟩
  | .hbm, ⟨10, _⟩ => ⟨S5x1, .i32⟩
  | .hbm, ⟨11, _⟩ => ⟨S5x5, .f32⟩
  | _, _ => ⟨S5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Overwrite.lean ====
/-
  The mathematics of the indexed row copy, free of any program. `overwrite w y r a` is what row `r` holds when five
  candidate rows are written over it in order, candidate `i` landing on row `w i`: the last candidate aimed at `r` wins,
  and `a`, the old content, stays if there is none.
-/
module

public import Idealize.ShloMosaic.Lib.ValueIdx
public import Idealize.ShloMosaic.Lib.Pipeline.Value

@[expose] public section

namespace Cert.Overwrite

open Idealize.ShloMosaic Idealize.ShloMosaic.ValueIdx

variable {α : Type}

/-- Row `r` after candidates `0 … 4` are written in order, candidate `i` on row `w i`: the last one aimed at `r`, or the
old content `a` when no candidate is. -/
def overwrite (w : Fin 5 → BitVec 32) (y : Fin 5 → α) (r : ℕ) (a : α) : α :=
  (List.finRange 5).foldl (fun acc i => if w i = BitVec.ofNat 32 r then y i else acc) a

/-- `overwrite` as five nested choices, the last candidate asked first. -/
theorem overwrite_eq (w : Fin 5 → BitVec 32) (y : Fin 5 → α) (r : ℕ) (a : α) :
    overwrite w y r a = if w 4 = BitVec.ofNat 32 r then y 4 else if w 3 = BitVec.ofNat 32 r then y 3
      else if w 2 = BitVec.ofNat 32 r then y 2 else if w 1 = BitVec.ofNat 32 r then y 1
      else if w 0 = BitVec.ofNat 32 r then y 0 else a := rfl

/-- The three arrays the kernel reads, padded to sixteen lanes, give this output: every row overwritten lane by lane. -/
def padded (y x : (⟨2, ![5, 16]⟩ : Shape).Idx → α) (ix : (⟨1, ![16]⟩ : Shape).Idx → BitVec 32) :
    (⟨2, ![5, 16]⟩ : Shape).Idx → α :=
  fun j => overwrite (fun i => ix (ix1 (i.castLE (by decide)))) (fun i => y (ix2 i (j 1))) (j 0).val (x j)

/-- A choice between two vectors on a comparison for equality is the `if` on the equation. -/
theorem select_cmpi_eq {β : Type} {n : ℕ} (a b : BitVec n) (u v : β) :
    Scalar.select (Scalar.cmpi .eq a b) u v = if a = b then u else v := by
  unfold Scalar.select Scalar.cmpi
  by_cases h : a = b
  · subst h; simp [IntOp.cmpi]
  · have hb : (a == b) = false := beq_eq_false_iff_ne.mpr h
    simp [IntOp.cmpi, hb, h]

/-- A reshape of an `if` between two vectors is the `if` between their reshapes. -/
theorem shapeCast_ite {s t : Shape} (h : s.ShapeCasts t) (c : Prop) [Decidable c] (u v : s.Idx → α) :
    shapeCast t (if c then u else v) h = if c then shapeCast t u h else shapeCast t v h := by
  split <;> rfl

end Cert.Overwrite

end
-- ==== Proof.Scatter.lean ====
/-
  The host's scatters read at an index. The two that pad an argument to sixteen lanes give the argument back on the first
  five; the reference's row scatter is `overwrite` of the five rows, once an index word is known to mean the same row
  whether or not negative words are counted from the end.
-/
module

public import proofs.«01_k».proof.Proof.Overwrite
public import Idealize.ShloMosaic.Lib.Routing.OpsPair
public import Idealize.ShloMosaic.Lib.Routing.OpsSet

@[expose] public section

namespace Cert.Scatter

open Idealize.ShloMosaic Idealize.ShloMosaic.ValueIdx Idealize.ShloMosaic.Routing Cert.Overwrite

variable {α : Type}

/-! ## The padding scatters -/

/-- A 5×5 array scattered whole to column 0 of a 5×16 one is found on the first five columns. -/
theorem pad_rows (d : ScatterDims ⟨2, ![5, 16]⟩ ⟨1, ![1]⟩ ⟨2, ![5, 5]⟩) (h1 : d.updateWindowDims = [0, 1]) (h2 : d.insertedWindowDims = [])
    (h3 : d.scatterDimsToOperandDims = [1]) (h4 : d.indexVectorDim = 0) (x0 : (⟨2, ![5, 16]⟩ : Shape).Idx → α) (idx : IVec ⟨1, ![1]⟩ 32)
    (hidx : ∀ j, idx j = 0#32) (u : (⟨2, ![5, 5]⟩ : Shape).Idx → α) (r : Fin 5) (c : Fin 5) :
    Host.scatter d (fun _ b => b) x0 idx u (ix2 r (c.castLE (by decide) : Fin 16)) = u (ix2 r c) := by
  obtain ⟨uw, iw, sd, iv, wf⟩ := d
  dsimp only at h1 h2 h3 h4
  subst h1 h2 h3 h4
  have hs : ∀ k a, ScatterDims.start ⟨[0, 1], [], [1], 0, wf⟩ k idx a = 0 := fun k a => by
    unfold ScatterDims.start
    split
    · rw [hidx]; rfl
    · rfl
  have hw0 : ∀ k : (⟨2, ![5, 5]⟩ : Shape).Idx, ScatterDims.window (⟨[0, 1], [], [1], 0, wf⟩ : ScatterDims ⟨2, ![5, 16]⟩ ⟨1, ![1]⟩ ⟨2, ![5, 5]⟩) k 0 = (k 0).val := fun k => rfl
  have hw1 : ∀ k : (⟨2, ![5, 5]⟩ : Shape).Idx, ScatterDims.window (⟨[0, 1], [], [1], 0, wf⟩ : ScatterDims ⟨2, ![5, 16]⟩ ⟨1, ![1]⟩ ⟨2, ![5, 5]⟩) k 1 = (k 1).val := fun k => rfl
  refine scatter_set_hit _ x0 idx u _ _ (fun k hk => ?_) (ix2 r c) ?_
  · have h := (resultIdx?_ix2 _ k idx r _).1 hk
    rw [hs, hs, hw0, hw1] at h
    have e0 : k 0 = r := Fin.ext (by have := h.1; omega)
    have e1 : k 1 = c := Fin.ext (by have := h.2; simp only [Fin.val_castLE] at this; omega)
    rw [eq_ix2 k, e0, e1]
    rfl
  · refine (resultIdx?_ix2 _ _ idx r _).2 ?_
    rw [hs, hs, hw0, hw1]
    exact ⟨by simp, by simp⟩

/-- Five words scattered whole to position 0 of sixteen are found on the first five positions. -/
theorem pad_words (d : ScatterDims ⟨1, ![16]⟩ ⟨1, ![1]⟩ ⟨1, ![5]⟩) (h1 : d.updateWindowDims = [0]) (h2 : d.insertedWindowDims = [])
    (h3 : d.scatterDimsToOperandDims = [0]) (h4 : d.indexVectorDim = 0) (x0 : (⟨1, ![16]⟩ : Shape).Idx → α) (idx : IVec ⟨1, ![1]⟩ 32)
    (hidx : ∀ j, idx j = 0#32) (u : (⟨1, ![5]⟩ : Shape).Idx → α) (i : Fin 5) :
    Host.scatter d (fun _ b => b) x0 idx u (ix1 (i.castLE (by decide) : Fin 16)) = u (ix1 i) := by
  obtain ⟨uw, iw, sd, iv, wf⟩ := d
  dsimp only at h1 h2 h3 h4
  subst h1 h2 h3 h4
  have hs : ∀ k a, ScatterDims.start ⟨[0], [], [0], 0, wf⟩ k idx a = 0 := fun k a => by
    unfold ScatterDims.start
    split
    · rw [hidx]; rfl
    · rfl
  have hw0 : ∀ k : (⟨1, ![5]⟩ : Shape).Idx, ScatterDims.window (⟨[0], [], [0], 0, wf⟩ : ScatterDims ⟨1, ![16]⟩ ⟨1, ![1]⟩ ⟨1, ![5]⟩) k 0 = (k 0).val := fun k => rfl
  refine scatter_set_hit _ x0 idx u _ _ (fun k hk => ?_) (ix1 i) ?_
  · have h := (resultIdx?_ix1 _ k idx _).1 hk
    rw [hs, hw0] at h
    have e0 : k 0 = i := Fin.ext (by simp only [Fin.val_castLE] at h; omega)
    rw [eq_ix1 k, e0]
    rfl
  · refine (resultIdx?_ix1 _ _ idx _).2 ?_
    rw [hs, hw0]
    simp

/-! ## The reference's row scatter -/

/-- Update `(a, b)` of the row scatter lands at `(r, c)` exactly when row `a`'s word, read signed, is `r`, and `b` is `c`. -/
theorem row_lands (d : ScatterDims ⟨2, ![5, 5]⟩ ⟨2, ![5, 1]⟩ ⟨2, ![5, 5]⟩) (h1 : d.updateWindowDims = [1]) (h2 : d.insertedWindowDims = [0])
    (h3 : d.scatterDimsToOperandDims = [0]) (h4 : d.indexVectorDim = 1) (idx : IVec ⟨2, ![5, 1]⟩ 32) (a b r c : Fin 5) :
    d.resultIdx? (ix2 a b) idx = some (ix2 r c) ↔ (idx (ix2 a (0 : Fin 1))).toInt = (r.val : Int) ∧ b = c := by
  obtain ⟨uw, iw, sd, iv, wf⟩ := d
  dsimp only at h1 h2 h3 h4
  subst h1 h2 h3 h4
  have hw0 : ScatterDims.window (⟨[1], [0], [0], 1, wf⟩ : ScatterDims ⟨2, ![5, 5]⟩ ⟨2, ![5, 1]⟩ ⟨2, ![5, 5]⟩) (ix2 a b) 0 = 0 := rfl
  have hw1 : ScatterDims.window (⟨[1], [0], [0], 1, wf⟩ : ScatterDims ⟨2, ![5, 5]⟩ ⟨2, ![5, 1]⟩ ⟨2, ![5, 5]⟩) (ix2 a b) 1 = b.val := rfl
  have hs1 : ScatterDims.start (⟨[1], [0], [0], 1, wf⟩ : ScatterDims ⟨2, ![5, 5]⟩ ⟨2, ![5, 1]⟩ ⟨2, ![5, 5]⟩) (ix2 a b) idx 1 = 0 := rfl
  have hs0 : ScatterDims.start (⟨[1], [0], [0], 1, wf⟩ : ScatterDims ⟨2, ![5, 5]⟩ ⟨2, ![5, 1]⟩ ⟨2, ![5, 5]⟩) (ix2 a b) idx 0 = (idx (ix2 a (0 : Fin 1))).toInt := by
    unfold ScatterDims.start
    rw [dif_pos (List.mem_singleton.mpr rfl)]
    refine congrArg (fun j => (idx j).toInt) (funext fun q => ?_)
    match q with
    | ⟨0, _⟩ => rfl
    | ⟨1, _⟩ => rfl
  rw [resultIdx?_ix2, hs0, hs1, hw0, hw1, Fin.ext_iff]
  omega

/-- Twenty-five writes in row-major order, those of one column taken only, are the five of that column in order. -/
theorem fold_col (p : Fin 5 → Prop) [DecidablePred p] (g : Fin 5 → Fin 5 → α) (c : Fin 5) (a : α) :
    (List.finRange 25).foldl (fun acc n => if (⟨n.val % 5, Nat.mod_lt _ (by decide)⟩ : Fin 5) = c then
        if p ⟨n.val / 5, by omega⟩ then g ⟨n.val / 5, by omega⟩ ⟨n.val % 5, Nat.mod_lt _ (by decide)⟩ else acc else acc) a
      = (List.finRange 5).foldl (fun acc i => if p i then g i c else acc) a := by
  match c with
  | ⟨0, _⟩ => rfl
  | ⟨1, _⟩ => rfl
  | ⟨2, _⟩ => rfl
  | ⟨3, _⟩ => rfl
  | ⟨4, _⟩ => rfl

/-- The row scatter at `(r, c)`: the five rows in order, each replacing the entry when its word, read signed, is `r`. -/
theorem row_scatter (d : ScatterDims ⟨2, ![5, 5]⟩ ⟨2, ![5, 1]⟩ ⟨2, ![5, 5]⟩) (h1 : d.updateWindowDims = [1]) (h2 : d.insertedWindowDims = [0])
    (h3 : d.scatterDimsToOperandDims = [0]) (h4 : d.indexVectorDim = 1) (x0 : (⟨2, ![5, 5]⟩ : Shape).Idx → α) (idx : IVec ⟨2, ![5, 1]⟩ 32)
    (u : (⟨2, ![5, 5]⟩ : Shape).Idx → α) (r c : Fin 5) :
    Host.scatter d (fun _ b => b) x0 idx u (ix2 r c)
      = (List.finRange 5).foldl (fun acc i => if (idx (ix2 i (0 : Fin 1))).toInt = (r.val : Int) then u (ix2 i c) else acc) (x0 (ix2 r c)) := by
  rw [scatter_at]
  refine Eq.trans ?_ (fold_col (fun i => (idx (ix2 i (0 : Fin 1))).toInt = (r.val : Int)) (fun i j => u (ix2 i j)) c (x0 (ix2 r c)))
  refine congrArg (fun f => (List.finRange 25).foldl f (x0 (ix2 r c))) (funext fun acc => funext fun n => ?_)
  have hn : n.val < 25 := n.isLt
  have hs := symm22 (A := 5) (B := 5) n (by omega) (Nat.mod_lt _ (by decide))
  change (⟨2, ![5, 5]⟩ : Shape).rowMajor.symm n = _ at hs
  rw [hs]
  simp only [row_lands d h1 h2 h3 h4]
  by_cases e : (⟨n.val % 5, Nat.mod_lt _ (by decide)⟩ : Fin 5) = c
  · simp only [e, and_true, if_true]
  · simp only [e, and_false, if_false]

/-! ## The index words -/

/-- The index word as the reference reads it, negative words counted from the end. -/
def wrapped (w : BitVec 32) : BitVec 32 := Scalar.select (IntOp.cmpi .slt w 0#32) (IntOp.addi w 5#32) w

/-- A word that is not negative, or is below -5, names the same row either way. -/
theorem wrapped_eq_row (w : BitVec 32) (h : IntOp.ori (IntOp.cmpi .sge w 0#32) (IntOp.cmpi .slt w 4294967291#32) = 1#1) (r : Fin 5) :
    (wrapped w).toInt = (r.val : Int) ↔ w = BitVec.ofNat 32 r.val := by
  have hr := r.isLt
  have hc : (0#32).sle w = true ∨ w.slt 4294967291#32 = true := by
    unfold IntOp.ori IntOp.cmpi at h
    revert h
    dsimp only
    cases (0#32).sle w <;> cases w.slt 4294967291#32 <;> decide
  simp only [BitVec.sle_eq_decide, BitVec.slt_eq_decide, decide_eq_true_eq, BitVec.toInt_eq_toNat_cond, BitVec.toNat_ofNat, Nat.reducePow,
    Nat.reduceMod] at hc
  have hw := w.isLt
  have hs : wrapped w = if w.toNat < 2147483648 then w else w + 5#32 := by
    unfold wrapped Scalar.select IntOp.cmpi IntOp.addi
    simp only [BitVec.slt_eq_decide, BitVec.toInt_eq_toNat_cond, BitVec.toNat_ofNat, Nat.reducePow, Nat.reduceMod]
    by_cases hl : w.toNat < 2147483648
    · rw [if_pos hl, if_neg]
      rw [decide_eq_false (by omega)]
      decide
    · rw [if_neg hl, if_pos]
      rw [decide_eq_true (by omega)]
      rfl
  rw [hs, ← BitVec.toNat_inj]
  split
  · simp only [BitVec.toInt_eq_toNat_cond, BitVec.toNat_ofNat, Nat.reducePow]
    omega
  · simp only [BitVec.toInt_eq_toNat_cond, BitVec.toNat_add, BitVec.toNat_ofNat, Nat.reducePow, Nat.reduceMod]
    omega

end Cert.Scatter

end
-- ==== Proof.RowsIdeal.lean ====
/-
  What the working tile stores in each row: the five payloads of the kernel's stores, each read at one lane, are
  `overwrite` of the five candidate rows over that row's old content.
-/
module

public import proofs.«01_k».proof.Proof.Overwrite
public import proofs.«01_k».proof.Proof.Gen.KernelIdeal.Skeleton

@[expose] public section

noncomputable section

namespace Cert.KernelIdeal.Rows

open Cert.KernelIdeal Cert.KernelIdeal.Gen Cert.Overwrite
open Idealize.ShloMosaic Idealize.ShloMosaic.ValueIdx

variable {F : FTy → Type} [FloatOps F]

/-- The word cut out of the index vector at position `k` is its element `k`. -/
theorem word_at (v : IVec S16 32) (k : ℕ) (hk : k < 16) (h : S16.Slices ![k] S1) :
    extractAt ![0] (extractStridedSlice S1 ![k] v h) inpos_S1_p0 = v (ix1 ⟨k, hk⟩) := by
  refine congrArg v (funext fun a => ?_)
  match a with
  | ⟨0, _⟩ => rfl

variable (v5 : Vec F S16 .i32) (v8 v11 v14 v17 v20 c : Vec F S1x16 .f32) (q : S1x16.Idx)

/-- The five candidate rows at one lane. -/
def cand (v8 v11 v14 v17 v20 : Vec F S1x16 .f32) (q : S1x16.Idx) : Fin 5 → Elt F .f32 := ![v8 q, v11 q, v14 q, v17 q, v20 q]

/-- The five words that aim them. -/
def words (v5 : Vec F S16 .i32) : Fin 5 → BitVec 32 := fun i => v5 (ix1 (i.castLE (by decide)))

/-- The store to row 0. -/
theorem row0 :
    k0_pay11 (k0_pay8 v20) (k0_pay9 v5 v8 v11 v14 v17 c) (k0_pay10 v5) q
      = overwrite (words v5) (cand v8 v11 v14 v17 v20 q) 0 (c q) := by
  rw [overwrite_eq]
  simp only [k0_pay11, k0_pay8, k0_pay9, k0_pay10, k0_pay3, k0_pay4, k0_pay5, k0_pay6, k0_pay7, shapeCast_self, select_cmpi_eq,
    shapeCast_ite, shapeCast_shapeCast, word_at v5 0 (by decide), word_at v5 1 (by decide), word_at v5 2 (by decide), word_at v5 3 (by decide), word_at v5 4 (by decide)]
  simp only [ite_apply]
  rfl

/-- The store to row 1. -/
theorem row1 :
    k0_pay12 (k0_pay3 v5) (k0_pay4 v8) (k0_pay5 v11) (k0_pay6 v14) (k0_pay7 v17) (k0_pay8 v20) c q
      = overwrite (words v5) (cand v8 v11 v14 v17 v20 q) 1 (c q) := by
  rw [overwrite_eq]
  simp only [k0_pay12, k0_pay8, k0_pay3, k0_pay4, k0_pay5, k0_pay6, k0_pay7, shapeCast_self, select_cmpi_eq,
    shapeCast_ite, shapeCast_shapeCast, word_at v5 0 (by decide), word_at v5 1 (by decide), word_at v5 2 (by decide), word_at v5 3 (by decide), word_at v5 4 (by decide)]
  simp only [ite_apply]
  rfl

/-- The store to row 2. -/
theorem row2 :
    k0_pay15 (k0_pay3 v5) (k0_pay5 v11) (k0_pay6 v14) (k0_pay7 v17) (k0_pay8 v20) (k0_pay13 (k0_pay3 v5) (k0_pay4 v8) c)
        (extractAt ![0] (k0_pay14 (k0_pay3 v5)) inpos_S1_p0) q
      = overwrite (words v5) (cand v8 v11 v14 v17 v20 q) 2 (c q) := by
  rw [overwrite_eq]
  simp only [k0_pay15, k0_pay13, k0_pay14, k0_pay8, k0_pay3, k0_pay4, k0_pay5, k0_pay6, k0_pay7, shapeCast_self, select_cmpi_eq,
    shapeCast_ite, shapeCast_shapeCast, word_at v5 0 (by decide), word_at v5 1 (by decide), word_at v5 2 (by decide), word_at v5 3 (by decide), word_at v5 4 (by decide)]
  simp only [ite_apply]
  rfl

/-- The store to row 3. -/
theorem row3 :
    k0_pay1 (k0_pay16 (k0_pay3 v5) (k0_pay4 v8) (k0_pay5 v11) (k0_pay6 v14) (k0_pay7 v17) (k0_pay8 v20) c) q
      = overwrite (words v5) (cand v8 v11 v14 v17 v20 q) 3 (c q) := by
  rw [overwrite_eq]
  simp only [k0_pay1, k0_pay16, k0_pay8, k0_pay3, k0_pay4, k0_pay5, k0_pay6, k0_pay7, shapeCast_self, select_cmpi_eq,
    shapeCast_ite, shapeCast_shapeCast, word_at v5 0 (by decide), word_at v5 1 (by decide), word_at v5 2 (by decide), word_at v5 3 (by decide), word_at v5 4 (by decide)]
  simp only [ite_apply]
  rfl

/-- The store to row 4. -/
theorem row4 :
    k0_pay2 (k0_pay3 v5) (k0_pay4 v8) (k0_pay5 v11) (k0_pay6 v14) (k0_pay7 v17) (k0_pay8 v20) c q
      = overwrite (words v5) (cand v8 v11 v14 v17 v20 q) 4 (c q) := by
  rw [overwrite_eq]
  simp only [k0_pay2, k0_pay8, k0_pay3, k0_pay4, k0_pay5, k0_pay6, k0_pay7, shapeCast_self, select_cmpi_eq,
    shapeCast_ite, shapeCast_shapeCast, word_at v5 0 (by decide), word_at v5 1 (by decide), word_at v5 2 (by decide), word_at v5 3 (by decide), word_at v5 4 (by decide)]
  simp only [ite_apply]
  rfl

end Cert.KernelIdeal.Rows

end
-- ==== Proof.TileIdeal.lean ====
/-
  One tile's run, stated once for a symbolic SparseCore and tile. SparseCore 0's tile 0 copies the three padded arrays into its
  own memory, writes each of the five rows as five choices on the index words, and copies the result out: the output array then
  holds `padded` of the three (`tile_works`). Every other tile's guard is false and it does nothing (`tile_idle`). `tile_body`
  joins the two over `share`, the four arrays at the working place and nothing elsewhere. The first section sets up the launch as
  the library's SparseCore examples do.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.RowsIdeal
public import Idealize.ShloMosaic.Lib.WritesUnit
public import Idealize.ShloMosaic.Lib.VecWindow

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Overwrite Cert.KernelIdeal.Rows

variable {F : FTy → Type}

/-! ## The program as the launch theorem sees it -/

/-- The labels of the program's calls. -/
abbrev ΛP : Labels := Pipeline.Sig Λ₀ (Fin 0) fun p => (pcfgs (F := F) p).Adm
/-- The SparseCore call, as the launch theorem takes it. -/
abbrev K : SparseCore.Cfg τ sig (ΛP (F := F)) 1 := sc (F := F)
/-- The program's function table. -/
abbrev D [FloatOps F] : Defs nD τ sig (Elt F) (ΛP (F := F)) := Pipeline.defs pcfgs defs₀
/-- The body has no loop, so no variant is needed. -/
abbrev 𝒱₀ : Variants := Variants.none
/-- The same for the whole launch. -/
abbrev 𝒱 : Variants := 𝒱₀.lift
/-- The variant every thread starts at. -/
abbrev v₀ : 𝒱.V := Sum.inl none

/-- What the launch theorem asks of the call: its handshake semaphores are distinct and unscoped, and no array a SparseCore
owns is shared between its tiles' tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

/-- The handshakes' part of the resource algebra. -/
abbrev UH : Type := URounds (GSem nD τ sig) ℕ
/-- The whole of it: the transfers' counters beside the handshakes. -/
abbrev UU : Type := UH × Counters

local notation "𝕄" => MT nD τ sig (HIx 1) (Elt F) ℕ UU ℕ

/-- Where the handshakes' part lies in it. -/
abbrev EH : Emb UH (MT nD τ sig (HIx 1) (Elt F) ℕ UU ℕ) := embL

/-! ## The arrays -/

local notation "yW" => (Memref.whole Cert.KernelIdeal.main_v2_scv : Memref Cert.KernelIdeal.sig Kind.scVector Space.hbm Cert.KernelIdeal.S5x16 EltTy.f32)
local notation "xW" => (Memref.whole Cert.KernelIdeal.main_v5_scv : Memref Cert.KernelIdeal.sig Kind.scVector Space.hbm Cert.KernelIdeal.S5x16 EltTy.f32)
local notation "iW" => (Memref.whole Cert.KernelIdeal.main_v8_scv : Memref Cert.KernelIdeal.sig Kind.scVector Space.hbm Cert.KernelIdeal.S16 EltTy.i32)
local notation "oW" => (Memref.whole Cert.KernelIdeal.main_v9_scv : Memref Cert.KernelIdeal.sig Kind.scVector Space.hbm Cert.KernelIdeal.S5x16 EltTy.f32)
local notation "sY" => (Memref.whole Cert.KernelIdeal.cc0_scratch0 : Memref Cert.KernelIdeal.sig Kind.scVector Space.vmem Cert.KernelIdeal.S5x16 EltTy.f32)
local notation "sO" => (Memref.whole Cert.KernelIdeal.cc0_scratch1 : Memref Cert.KernelIdeal.sig Kind.scVector Space.vmem Cert.KernelIdeal.S5x16 EltTy.f32)
local notation "sI" => (Memref.whole Cert.KernelIdeal.cc0_scratch2 : Memref Cert.KernelIdeal.sig Kind.scVector Space.vmem Cert.KernelIdeal.S16 EltTy.i32)

/-- Where the padded `y` lies. -/
abbrev yLoc (d : Dev nD) : Loc nD τ sig := (SparseCore.T d).loc main_v2
/-- Where the padded `x` lies. -/
abbrev xLoc (d : Dev nD) : Loc nD τ sig := (SparseCore.T d).loc main_v5
/-- Where the padded index words lie. -/
abbrev iLoc (d : Dev nD) : Loc nD τ sig := (SparseCore.T d).loc main_v8
/-- Where the output lies. -/
abbrev oLoc (d : Dev nD) : Loc nD τ sig := (SparseCore.T d).loc main_v9

variable [FloatOps F]

/-- What the call hands over: the three inputs and the output array whole, at the contents given. -/
def fourPts (d : Dev nD) (y x : Vec F S5x16 .f32) (i : Vec F S16 .i32) (o : Vec F S5x16 .f32) : sProp 𝕄 :=
  iprop((yLoc d ↦{fullShare} y) ∗ (xLoc d ↦{fullShare} x) ∗ (iLoc d ↦{fullShare} i) ∗ (oLoc d ↦{fullShare} o))

section Tile

variable (d : Dev nD) (L : grid0.Coords)

/-- The SparseCore a grid place runs on. -/
abbrev cV (L : grid0.Coords) : Fin τ.nSC := (L 0).castLE hcore0
/-- The tile a grid place runs on. -/
abbrev jV (L : grid0.Coords) : Fin τ.nSub := (L 1).castLE hsub0

/-- The semaphore of a tile's copy of `x` in. -/
abbrev cell0 (d : Dev nD) (c : Fin τ.nSC) (i : Fin τ.nSub) : GSem nD τ sig := (V d c i, .dma cc0_scoped0.sem)
/-- The semaphore of its copy of `y` in. -/
abbrev cell1 (d : Dev nD) (c : Fin τ.nSC) (i : Fin τ.nSub) : GSem nD τ sig := (V d c i, .dma cc0_scoped1.sem)
/-- The semaphore of its copy of the index words in. -/
abbrev cell2 (d : Dev nD) (c : Fin τ.nSC) (i : Fin τ.nSub) : GSem nD τ sig := (V d c i, .dma cc0_scoped2.sem)
/-- The semaphore of its copy of the result out. -/
abbrev cell3 (d : Dev nD) (c : Fin τ.nSC) (i : Fin τ.nSub) : GSem nD τ sig := (V d c i, .dma cc0_scoped3.sem)

omit [FloatOps F] in
/-- A tile's own semaphores, all at zero, with the four of its copies taken out. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

omit [FloatOps F] in
/-- A tile's own memory, with the three scratch arrays taken out. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The kernel's guard: both coordinates are zero. -/
def guard (L : grid0.Coords) : BitVec 1 :=
  Scalar.cmpi .ne (Scalar.extui (Scalar.andi (Scalar.cmpi .eq (BitVec.ofNat 32 (L 0).val) 0#32) (Scalar.cmpi .eq (BitVec.ofNat 32 (L 1).val) 0#32)) : BitVec 32) 0#32
/-- The place that does the work: SparseCore 0, tile 0. -/
abbrev worker (L : grid0.Coords) : Prop := (L 0).val = 0 ∧ (L 1).val = 0

omit [FloatOps F] in
/-- At the working place the guard is one. -/
theorem guard_pos {L : grid0.Coords} (h : worker L) : guard L = 1#1 := by
  unfold guard; rw [h.1, h.2]; decide

omit [FloatOps F] in
/-- At every other place it is not. -/
theorem guard_neg {L : grid0.Coords} (h : ¬ worker L) : ¬ guard L = 1#1 := by
  have hv : ∀ (a : Fin 2) (b : Fin 16), ¬ (a.val = 0 ∧ b.val = 0) → ¬ Scalar.cmpi .ne (Scalar.extui (Scalar.andi (Scalar.cmpi .eq (BitVec.ofNat 32 a.val) 0#32) (Scalar.cmpi .eq (BitVec.ofNat 32 b.val) 0#32)) : BitVec 32) 0#32 = 1#1 := by decide
  exact hv (L 0) (L 1) h

/-! ## The values the working tile moves -/

/-- Five stores, one to each row, leave the array whose rows they are. -/
theorem rows_written (f : cc0_scratch1.ty.Contents (Elt F)) (p0 p1 p2 p3 p4 : S1x16.Idx → Elt F .f32) (g : Vec F S5x16 .f32)
    (h0 : ∀ q, p0 q = g (ix2 0 (q 1))) (h1 : ∀ q, p1 q = g (ix2 1 (q 1))) (h2 : ∀ q, p2 q = g (ix2 2 (q 1)))
    (h3 : ∀ q, p3 q = g (ix2 3 (q 1))) (h4 : ∀ q, p4 q = g (ix2 4 (q 1))) :
    (sO).view.read (Elt F) ((sO).view.writes (Elt F) f
      [⟨Rect.unit ![4, 0] S1x16.size inb_S5x16_S1x16_4_0, p4⟩, ⟨Rect.unit ![3, 0] S1x16.size inb_S5x16_S1x16_3_0, p3⟩,
       ⟨Rect.unit ![2, 0] S1x16.size inb_S5x16_S1x16_2_0, p2⟩, ⟨Rect.unit ![1, 0] S1x16.size inb_S5x16_S1x16_1_0, p1⟩,
       ⟨Rect.unit ![0, 0] S1x16.size inb_S5x16_S1x16_0_0, p0⟩]) = g := by
  funext j
  obtain ⟨r, c, rfl⟩ : ∃ r c, j = ix2 r c := ⟨j 0, j 1, eq_ix2 j⟩
  match r with
  | ⟨0, _⟩ =>
    refine (View.read_writes_cons_rows_of_not_mem _ _ _ _ _ _ (o := 4) rfl rfl (Or.inl (show (0 : ℕ) < 4 by decide))).trans ?_
    refine (View.read_writes_cons_rows_of_not_mem _ _ _ _ _ _ (o := 3) rfl rfl (Or.inl (show (0 : ℕ) < 3 by decide))).trans ?_
    refine (View.read_writes_cons_rows_of_not_mem _ _ _ _ _ _ (o := 2) rfl rfl (Or.inl (show (0 : ℕ) < 2 by decide))).trans ?_
    refine (View.read_writes_cons_rows_of_not_mem _ _ _ _ _ _ (o := 1) rfl rfl (Or.inl (show (0 : ℕ) < 1 by decide))).trans ?_
    exact (View.read_writes_cons_rows_of_mem (Val := Elt F) (sO).view _ _ _ _ (ix2 (⟨0, by decide⟩ : Fin 5) c) (ix2 (0 : Fin 1) c : S1x16.Idx) (o := 0) rfl rfl rfl).trans (h0 _)
  | ⟨1, _⟩ =>
    refine (View.read_writes_cons_rows_of_not_mem _ _ _ _ _ _ (o := 4) rfl rfl (Or.inl (show (1 : ℕ) < 4 by decide))).trans ?_
    refine (View.read_writes_cons_rows_of_not_mem _ _ _ _ _ _ (o := 3) rfl rfl (Or.inl (show (1 : ℕ) < 3 by decide))).trans ?_
    refine (View.read_writes_cons_rows_of_not_mem _ _ _ _ _ _ (o := 2) rfl rfl (Or.inl (show (1 : ℕ) < 2 by decide))).trans ?_
    exact (View.read_writes_cons_rows_of_mem (Val := Elt F) (sO).view _ _ _ _ (ix2 (⟨1, by decide⟩ : Fin 5) c) (ix2 (0 : Fin 1) c : S1x16.Idx) (o := 1) rfl rfl rfl).trans (h1 _)
  | ⟨2, _⟩ =>
    refine (View.read_writes_cons_rows_of_not_mem _ _ _ _ _ _ (o := 4) rfl rfl (Or.inl (show (2 : ℕ) < 4 by decide))).trans ?_
    refine (View.read_writes_cons_rows_of_not_mem _ _ _ _ _ _ (o := 3) rfl rfl (Or.inl (show (2 : ℕ) < 3 by decide))).trans ?_
    exact (View.read_writes_cons_rows_of_mem (Val := Elt F) (sO).view _ _ _ _ (ix2 (⟨2, by decide⟩ : Fin 5) c) (ix2 (0 : Fin 1) c : S1x16.Idx) (o := 2) rfl rfl rfl).trans (h2 _)
  | ⟨3, _⟩ =>
    refine (View.read_writes_cons_rows_of_not_mem _ _ _ _ _ _ (o := 4) rfl rfl (Or.inl (show (3 : ℕ) < 4 by decide))).trans ?_
    exact (View.read_writes_cons_rows_of_mem (Val := Elt F) (sO).view _ _ _ _ (ix2 (⟨3, by decide⟩ : Fin 5) c) (ix2 (0 : Fin 1) c : S1x16.Idx) (o := 3) rfl rfl rfl).trans (h3 _)
  | ⟨4, _⟩ =>
    exact (View.read_writes_cons_rows_of_mem (Val := Elt F) (sO).view _ _ _ _ (ix2 (⟨4, by decide⟩ : Fin 5) c) (ix2 (0 : Fin 1) c : S1x16.Idx) (o := 4) rfl rfl rfl).trans (h4 _)

/-- The scratch copy of `y`, loaded at row `k`, is row `k` of `y`. -/
theorem load_y (fy : cc0_scratch0.ty.Contents (Elt F)) (y : Vec F S5x16 .f32) (k : Fin 5) (inb : ∀ a, (![k.val, 0] : Fin 2 → ℕ) a + S1x16.size a ≤ S5x16.size a)
    (q : S1x16.Idx) :
    (sY).view.readAt (Elt F) (Rect.unit (s := S5x16) ![k.val, 0] S1x16.size inb).toLoadRect
      ((sY).view.write (Elt F) fy (ReadAs.same.apply ((yW).view.read (Elt F) y)) Finset.univ) q = y (ix2 k (q 1)) := by
  rw [View.readAt_apply, View.read_write_univ]
  refine congrArg y (funext fun a => ?_)
  match a with
  | ⟨0, _⟩ => exact Fin.ext (by show k.val + 1 * (q 0).val = k.val; have : (q 0).val < 1 := (q 0).isLt; omega)
  | ⟨1, _⟩ => exact Fin.ext (by show 0 + 1 * (q 1).val = (q 1).val; omega)

/-- The scratch copy of `x`, loaded at row `k`, is row `k` of `x`. -/
theorem load_x (fo : cc0_scratch1.ty.Contents (Elt F)) (x : Vec F S5x16 .f32) (k : Fin 5) (inb : ∀ a, (![k.val, 0] : Fin 2 → ℕ) a + S1x16.size a ≤ S5x16.size a)
    (q : S1x16.Idx) :
    (sO).view.readAt (Elt F) (Rect.unit (s := S5x16) ![k.val, 0] S1x16.size inb).toLoadRect
      ((sO).view.write (Elt F) fo (ReadAs.same.apply ((xW).view.read (Elt F) x)) Finset.univ) q = x (ix2 k (q 1)) := by
  rw [View.readAt_apply, View.read_write_univ]
  refine congrArg x (funext fun a => ?_)
  match a with
  | ⟨0, _⟩ => exact Fin.ext (by show k.val + 1 * (q 0).val = k.val; have : (q 0).val < 1 := (q 0).isLt; omega)
  | ⟨1, _⟩ => exact Fin.ext (by show 0 + 1 * (q 1).val = (q 1).val; omega)

/-- The scratch copy of the index vector, loaded whole, is the index vector. -/
theorem load_i (fi : cc0_scratch2.ty.Contents (Elt F)) (ix : Vec F S16 .i32) :
    (sI).view.readAt (Elt F) (Rect.unit (s := S16) ![0] S16.size inb_S16_S16_0).toLoadRect
      ((sI).view.write (Elt F) fi (ReadAs.same.apply ((iW).view.read (Elt F) ix)) Finset.univ) = ix :=
  (View.readAt_full _ _ _).trans (View.read_write_univ _ _)

/-- Row `k` of the closed form: the five loaded rows written over row `k` of `x` as the loaded words say. -/
theorem stored_eq (y x : Vec F S5x16 .f32) (ix v5 : Vec F S16 .i32) (v8 v11 v14 v17 v20 c : Vec F S1x16 .f32) (q : S1x16.Idx) (k : Fin 5)
    (h5 : v5 = ix) (h8 : v8 q = y (ix2 0 (q 1))) (h11 : v11 q = y (ix2 1 (q 1))) (h14 : v14 q = y (ix2 2 (q 1)))
    (h17 : v17 q = y (ix2 3 (q 1))) (h20 : v20 q = y (ix2 4 (q 1))) (hc : c q = x (ix2 k (q 1))) :
    overwrite (words v5) (cand v8 v11 v14 v17 v20 q) k.val (c q) = padded y x ix (ix2 k (q 1)) := by
  subst h5
  rw [hc, overwrite_eq]
  unfold cand
  rw [h8, h11, h14, h17, h20]
  rfl

set_option maxHeartbeats 1000000 in
/-- The working tile's run: given the four arrays and its own memory and semaphores, it ends with the output array at `padded` of
the three inputs, these unchanged, and all the rest given back. -/
theorem tile_works (hF : (K (F := F)).Facts) (hL : worker L) (y x : Vec F S5x16 .f32) (ix : Vec F S16 .i32) (o : Vec F S5x16 .f32)
    (O : CellTallies nD τ sig (HIx 1)) (W : Waits sig (HIx 1)) (hO : ∀ g, O g none = 0) :
    iprop(levAts (K (F := F)).L (K (F := F)).lev ∗ emp ∗ fourPts d y x ix o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_index_copy L yW (Memref.isWhole_whole _) xW (Memref.isWhole_whole _) iW (Memref.isWhole_whole _) oW (Memref.isWhole_whole _)
            sY (Memref.isWhole_whole _) sO (Memref.isWhole_whole _) sI (Memref.isWhole_whole _) cc0_scoped0 cc0_scoped1 cc0_scoped2 cc0_scoped3)
          fun _ => iprop(fourPts d y x ix (padded y x ix) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_index_copy_eq_skeleton]; unfold cc0__sc_index_copy_skel
  simp only [k0_part1_eq_skeleton, k0_part2_eq_skeleton, k0_part3_eq_skeleton]
  unfold k0_part1_skel k0_part2_skel k0_part3_skel
  rw [(K (F := F)).scopedBufs_V hF d (cV L) (jV L), SparseCore.Cfg.scopedSems0_V (Val := Elt F) d (cV L) (jV L), ownSems0_V, ownBufs_V]
  unfold fourPts
  iintro ⟨#Hlv, -, ⟨Hy, Hx, Hi, Ho⟩,
    ⟨⟨%fy, HsY⟩, ⟨%fo, HsO⟩, ⟨%fi, HsI⟩, Hbufs⟩, ⟨H0, H1, H2, H3, Hsems⟩, HO⟩
  ihave Hmw := ((K (F := F)).mayWaits_none (thr := V d (cV L) (jV L)) hO) $$ Hlv
  ihave Hy' := (show iprop(yLoc d ↦{fullShare} y) ⊢ iprop((yW).view.loc (V d (cV L) (jV L)) ↦{fullShare} y) from Entails.of_eq rfl) $$ Hy
  ihave Hx' := (show iprop(xLoc d ↦{fullShare} x) ⊢ iprop((xW).view.loc (V d (cV L) (jV L)) ↦{fullShare} x) from Entails.of_eq rfl) $$ Hx
  ihave Hi' := (show iprop(iLoc d ↦{fullShare} ix) ⊢ iprop((iW).view.loc (V d (cV L) (jV L)) ↦{fullShare} ix) from Entails.of_eq rfl) $$ Hi
  ihave Ho' := (show iprop(oLoc d ↦{fullShare} o) ⊢ iprop((oW).view.loc (V d (cV L) (jV L)) ↦{fullShare} o) from Entails.of_eq rfl) $$ Ho
  ihave HsY' := (show iprop((V d (cV L) (jV L)).loc cc0_scratch0 ↦{fullShare} fy) ⊢ iprop((sY).view.loc (V d (cV L) (jV L)) ↦{fullShare} fy) from Entails.of_eq rfl) $$ HsY
  ihave HsO' := (show iprop((V d (cV L) (jV L)).loc cc0_scratch1 ↦{fullShare} fo) ⊢ iprop((sO).view.loc (V d (cV L) (jV L)) ↦{fullShare} fo) from Entails.of_eq rfl) $$ HsO
  ihave HsI' := (show iprop((V d (cV L) (jV L)).loc cc0_scratch2 ↦{fullShare} fi) ⊢ iprop((sI).view.loc (V d (cV L) (jV L)) ↦{fullShare} fi) from Entails.of_eq rfl) $$ HsI
  have k0_h1 : guard L = 1#1 := guard_pos hL
  unfold guard at k0_h1
  sl_exec
  have hv : (oW).view.write (Elt F) o (tile_works.sl.dma21 d L y x ix fy fo fi) Finset.univ = padded y x ix := by
    rw [View.write_whole_univ]
    refine rows_written _ _ _ _ _ _ _ (fun q => ?_) (fun q => ?_) (fun q => ?_) (fun q => ?_) (fun q => ?_)
    · dsimp only
      refine (row0 _ _ _ _ _ _ _ q).trans (stored_eq y x ix _ _ _ _ _ _ _ q 0 ?_ ?_ ?_ ?_ ?_ ?_ ?_)
      exacts [load_i _ _, load_y _ _ 0 _ q, load_y _ _ 1 _ q, load_y _ _ 2 _ q, load_y _ _ 3 _ q, load_y _ _ 4 _ q, load_x _ _ 0 _ q]
    · dsimp only
      refine (row1 _ _ _ _ _ _ _ q).trans (stored_eq y x ix _ _ _ _ _ _ _ q 1 ?_ ?_ ?_ ?_ ?_ ?_ ?_)
      exacts [load_i _ _, load_y _ _ 0 _ q, load_y _ _ 1 _ q, load_y _ _ 2 _ q, load_y _ _ 3 _ q, load_y _ _ 4 _ q, load_x _ _ 1 _ q]
    · dsimp only
      refine (row2 _ _ _ _ _ _ _ q).trans (stored_eq y x ix _ _ _ _ _ _ _ q 2 ?_ ?_ ?_ ?_ ?_ ?_ ?_)
      exacts [load_i _ _, load_y _ _ 0 _ q, load_y _ _ 1 _ q, load_y _ _ 2 _ q, load_y _ _ 3 _ q, load_y _ _ 4 _ q, load_x _ _ 2 _ q]
    · dsimp only
      refine (row3 _ _ _ _ _ _ _ q).trans (stored_eq y x ix _ _ _ _ _ _ _ q 3 ?_ ?_ ?_ ?_ ?_ ?_ ?_)
      exacts [load_i _ _, load_y _ _ 0 _ q, load_y _ _ 1 _ q, load_y _ _ 2 _ q, load_y _ _ 3 _ q, load_y _ _ 4 _ q, load_x _ _ 3 _ q]
    · dsimp only
      refine (row4 _ _ _ _ _ _ _ q).trans (stored_eq y x ix _ _ _ _ _ _ _ q 4 ?_ ?_ ?_ ?_ ?_ ?_ ?_)
      exacts [load_i _ _, load_y _ _ 0 _ q, load_y _ _ 1 _ q, load_y _ _ 2 _ q, load_y _ _ 3 _ q, load_y _ _ 4 _ q, load_x _ _ 4 _ q]
  sl_step
  rw [hv]
  isplitl [Hy' Hx' Hi' Ho']
  · isplitl [Hy']; · iexact Hy'
    isplitl [Hx']; · iexact Hx'
    isplitl [Hi']; · iexact Hi'
    iexact Ho'
  isplitl [HsY' HsO' HsI' Hbufs]
  · isplitl [HsY']; · iexists _; iexact HsY'
    isplitl [HsO']; · iexists _; iexact HsO'
    isplitl [HsI']; · iexists _; iexact HsI'
    iexact Hbufs
  isplitl [H0 H1 H2 H3 Hsems]
  · isplitl [H0]; · iexact H0
    isplitl [H1]; · iexact H1
    isplitl [H2]; · iexact H2
    isplitl [H3]; · iexact H3
    iexact Hsems
  iexists _; isplitr
  swap
  · iexact HO
  · ipureintro
    intro p hp
    simp only [Finset.mem_insert] at hp
    rcases hp with rfl | rfl | rfl | rfl | hp
    · exact .inr rfl
    · exact .inr rfl
    · exact .inr rfl
    · exact .inr rfl
    · exact .inl hp

/-- Any other tile's body does nothing: every resource it is given comes back. -/
theorem tile_idle (hL : ¬ worker L) (O : CellTallies nD τ sig (HIx 1)) (W : Waits sig (HIx 1)) :
    iprop(levAts (K (F := F)).L (K (F := F)).lev ∗ emp ∗ (emp : sProp 𝕄)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_index_copy L yW (Memref.isWhole_whole _) xW (Memref.isWhole_whole _) iW (Memref.isWhole_whole _) oW (Memref.isWhole_whole _)
            sY (Memref.isWhole_whole _) sO (Memref.isWhole_whole _) sI (Memref.isWhole_whole _) cc0_scoped0 cc0_scoped1 cc0_scoped2 cc0_scoped3)
          fun _ => iprop((emp : sProp 𝕄) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_index_copy_eq_skeleton]; unfold cc0__sc_index_copy_skel
  iintro ⟨-, -, -, Hbufs, Hsems, HO⟩
  have k0_h1 : ¬ guard L = 1#1 := guard_neg hL
  unfold guard at k0_h1
  sl_exec
  sl_step
  isplitr
  · iempintro
  isplitl [Hbufs]; · iexact Hbufs
  isplitl [Hsems]; · iexact Hsems
  iexists W; isplitr
  · ipureintro; exact fun p hp => .inl hp
  · iexact HO

/-- What one tile is handed, and hands back: the four arrays if it is the worker, nothing otherwise. -/
def share (d : Dev nD) (c i : ℕ) (y x : Vec F S5x16 .f32) (ix : Vec F S16 .i32) (o : Vec F S5x16 .f32) : sProp 𝕄 :=
  if c = 0 ∧ i = 0 then fourPts d y x ix o else iprop(emp)

/-- One tile's run, at any place of the grid: the worker's output array holds the closed form afterwards, its inputs are
as they were, and its own memory and semaphores come back. -/
theorem tile_body (hF : (K (F := F)).Facts) (y x : Vec F S5x16 .f32) (ix : Vec F S16 .i32) (o : Vec F S5x16 .f32)
    (O : CellTallies nD τ sig (HIx 1)) (W : Waits sig (HIx 1)) (hO : ∀ g, O g none = 0) :
    iprop(levAts (K (F := F)).L (K (F := F)).lev ∗ emp ∗ share d (L 0).val (L 1).val y x ix o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_index_copy L yW (Memref.isWhole_whole _) xW (Memref.isWhole_whole _) iW (Memref.isWhole_whole _) oW (Memref.isWhole_whole _)
            sY (Memref.isWhole_whole _) sO (Memref.isWhole_whole _) sI (Memref.isWhole_whole _) cc0_scoped0 cc0_scoped1 cc0_scoped2 cc0_scoped3)
          fun _ => iprop(share d (L 0).val (L 1).val y x ix (padded y x ix) ∗ scopedBufs (V d (cV L) (jV L)) ∗ scopedSems0 (V d (cV L) (jV L))
            ∗ ∃ W', ⌜∀ p ∈ W', p ∈ W ∨ p.2 = none⌝ ∗ owes (V d (cV L) (jV L)) O W') := by
  unfold share
  by_cases hL : worker L
  · simp only [if_pos (show (L 0).val = 0 ∧ (L 1).val = 0 from hL)]
    exact tile_works d L hF hL y x ix o O W hO
  · simp only [if_neg (show ¬ ((L 0).val = 0 ∧ (L 1).val = 0) from hL)]
    exact tile_idle d L hL O W

end Tile

end Cert.KernelIdeal.Tile

end
-- ==== Proof.LaunchIdeal.lean ====
/-
  The whole program's run. @main pads the three arguments to sixteen lanes, hands the padded arrays and the output array
  to the two SparseCores, and slices the lanes away again. The call's payload is the four arrays for SparseCore 0's
  tile 0 and nothing for any other tile; it comes back with the output array at `padded` of the three inputs. The launch
  theorem (`Cfg.θ_run_sc_quiescent`) then gives that every weakly fair execution terminates, with the three arguments
  unchanged, the result at `sliced` of the arguments, and every semaphore at zero.
-/
module

public import proofs.«01_k».proof.Proof.TileIdeal
public import Idealize.ShloMosaic.Lib.Pipeline.Frame

@[expose] public section

noncomputable section

namespace Cert.KernelIdeal.Launch

open Cert.KernelIdeal Cert.KernelIdeal.Gen Cert.KernelIdeal.Tile Cert.Overwrite

open Idealize.ShloMosaic
open Idealize.ShloMosaic.SparseCore (S V)
open Idealize.ShloMosaic.SparseCore.Cfg (HIx Pay)
open Idealize.ShloMosaic.StableHlo (after held launchContents seq seqK seq_bind_seqK wp_seq wp_hlo_within held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "yW" => (Memref.whole Cert.KernelIdeal.main_v2_scv : Memref Cert.KernelIdeal.sig Kind.scVector Space.hbm Cert.KernelIdeal.S5x16 EltTy.f32)
local notation "xW" => (Memref.whole Cert.KernelIdeal.main_v5_scv : Memref Cert.KernelIdeal.sig Kind.scVector Space.hbm Cert.KernelIdeal.S5x16 EltTy.f32)
local notation "iW" => (Memref.whole Cert.KernelIdeal.main_v8_scv : Memref Cert.KernelIdeal.sig Kind.scVector Space.hbm Cert.KernelIdeal.S16 EltTy.i32)
local notation "oW" => (Memref.whole Cert.KernelIdeal.main_v9_scv : Memref Cert.KernelIdeal.sig Kind.scVector Space.hbm Cert.KernelIdeal.S5x16 EltTy.f32)
local notation "sY" => (Memref.whole Cert.KernelIdeal.cc0_scratch0 : Memref Cert.KernelIdeal.sig Kind.scVector Space.vmem Cert.KernelIdeal.S5x16 EltTy.f32)
local notation "sO" => (Memref.whole Cert.KernelIdeal.cc0_scratch1 : Memref Cert.KernelIdeal.sig Kind.scVector Space.vmem Cert.KernelIdeal.S5x16 EltTy.f32)
local notation "sI" => (Memref.whole Cert.KernelIdeal.cc0_scratch2 : Memref Cert.KernelIdeal.sig Kind.scVector Space.vmem Cert.KernelIdeal.S16 EltTy.i32)

/-! ## What @main computes around the call -/

/-- A 5×5 array padded with zeros to sixteen lanes, as @main does it. -/
def padRows (a : Vec F S5x5 .f32) : Vec F S5x16 .f32 :=
  Host.scatter scatter_S5x16_S1_S5x5_01_n_1_0 (fun _ b => b) (broadcastInDim S5x16 ![] bcast_S_S5x16 (constant S_ .f32 0x00000000#32))
    (broadcastInDim S1 ![] bcast_S_S1 (constantI S_ 32 0#32)) a

/-- Five words padded with zeros to sixteen, as @main does it. -/
def padWords (a : IVec S5 32) : IVec S16 32 :=
  Host.scatter scatter_S16_S1_S5_0_n_0_0 (fun _ b => b) (broadcastInDim S16 ![] bcast_S_S16 (constantI S_ 32 0#32))
    (broadcastInDim S1 ![] bcast_S_S1 (constantI S_ 32 0#32)) a

/-- The program's result: the padded arrays overwritten, and the first five lanes kept. -/
def sliced (a0 a1 : Vec F S5x5 .f32) (a2 : IVec S5 32) : Vec F S5x5 .f32 :=
  extractStridedSlice S5x5 ![0, 0] (padded (padRows a0) (padRows a1) (padWords a2)) slices_S5x16_S5x5_0_0

/-- @main before the call, operation by operation. -/
def preOps : List (HloOp τ sig (Elt F)) :=
  [ StableHlo.nullary main_cst (constant S_ .f32 0x00000000#32),
    StableHlo.unary main_cst main_v0 (broadcastInDim S5x16 ![] bcast_S_S5x16 : (⟨S_, .f32⟩ : BufTy).Contents (Elt F) → (⟨S5x16, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.ternary main_v0 main_v1 main_arg0 main_v2 ((fun x i u => Host.scatter scatter_S5x16_S1_S5x5_01_n_1_0 (fun _ b => b) x i u) : (⟨S5x16, .f32⟩ : BufTy).Contents (Elt F) → (⟨S1, .i32⟩ : BufTy).Contents (Elt F) → (⟨S5x5, .f32⟩ : BufTy).Contents (Elt F) → (⟨S5x16, .f32⟩ : BufTy).Contents (Elt F)),
    StableHlo.nullary main_cst_0 (constant S_ .f32 0x00000000#32),
    StableHlo.unary main_cst_0 main_v3 (broadcastInDim S5x16 ![] bcast_S_S5x16 : (⟨S_, .f32⟩ : BufTy).Contents (Elt F) → (⟨S5x16, .f32⟩ : BufTy).Contents (Elt F)),
    StableHlo.nullary main_c_1 (constantI S_ 32 0#32),
    StableHlo.unary main_c_1 main_v4 (broadcastInDim S1 ![] bcast_S_S1 : (⟨S_, .i32⟩ : BufTy).Contents (Elt F) → (⟨S1, .i32⟩ : BufTy).Contents (Elt F)),
    StableHlo.ternary main_v3 main_v4 main_arg1 main_v5 ((fun x i u => Host.scatter scatter_S5x16_S1_S5x5_01_n_1_0 (fun _ b => b) x i u) : (⟨S5x16, .f32⟩ : BufTy).Contents (Elt F) → (⟨S1, .i32⟩ : BufTy).Contents (Elt F) → (⟨S5x5, .f32⟩ : BufTy).Contents (Elt F) → (⟨S5x16, .f32⟩ : BufTy).Contents (Elt F)),
    StableHlo.nullary main_c_2 (constantI S_ 32 0#32),
    StableHlo.unary main_c_2 main_v6 (broadcastInDim S16 ![] bcast_S_S16 : (⟨S_, .i32⟩ : BufTy).Contents (Elt F) → (⟨S16, .i32⟩ : BufTy).Contents (Elt F)),
    StableHlo.nullary main_c_3 (constantI S_ 32 0#32),
    StableHlo.unary main_c_3 main_v7 (broadcastInDim S1 ![] bcast_S_S1 : (⟨S_, .i32⟩ : BufTy).Contents (Elt F) → (⟨S1, .i32⟩ : BufTy).Contents (Elt F)),
    StableHlo.ternary main_v6 main_v7 main_arg2 main_v8 ((fun x i u => Host.scatter scatter_S16_S1_S5_0_n_0_0 (fun _ b => b) x i u) : (⟨S16, .i32⟩ : BufTy).Contents (Elt F) → (⟨S1, .i32⟩ : BufTy).Contents (Elt F) → (⟨S5, .i32⟩ : BufTy).Contents (Elt F) → (⟨S16, .i32⟩ : BufTy).Contents (Elt F)) ]

/-- @main's one operation after the call. -/
abbrev opSlice : HloOp τ sig (Elt F) :=
  StableHlo.unary main_v9 main_v10 ((extractStridedSlice S5x5 ![0, 0] · slices_S5x16_S5x5_0_0) : (⟨S5x16, .f32⟩ : BufTy).Contents (Elt F) → (⟨S5x5, .f32⟩ : BufTy).Contents (Elt F))

/-- @main is the operations before the call, the call, and the slice. -/
theorem main_eq (d : Dev nD) :
    main (F := F) d = (seq preOps >>= fun _ => (K (F := F)).run d 0 >>= fun _ =>
      hlo rfl opSlice (fun _ => .ret (⟨⟩ : PUnit)) >>= fun _ => pure ⟨⟩) := by
  refine Eq.trans ?_ (seq_bind_seqK preOps _).symm
  rfl

/-- The first argument among the TensorCore's arrays. -/
abbrev a0' : DevRef τ sig := Proc.devRef .tc (main_arg0 : Ref sig .tc)
/-- The second argument. -/
abbrev a1' : DevRef τ sig := Proc.devRef .tc (main_arg1 : Ref sig .tc)
/-- The third argument. -/
abbrev a2' : DevRef τ sig := Proc.devRef .tc (main_arg2 : Ref sig .tc)
/-- The padded `y`. -/
abbrev y' : DevRef τ sig := Proc.devRef .tc (main_v2 : Ref sig .tc)
/-- The padded `x`. -/
abbrev x' : DevRef τ sig := Proc.devRef .tc (main_v5 : Ref sig .tc)
/-- The padded index words. -/
abbrev i' : DevRef τ sig := Proc.devRef .tc (main_v8 : Ref sig .tc)
/-- The call's output. -/
abbrev o' : DevRef τ sig := Proc.devRef .tc (main_v9 : Ref sig .tc)
/-- The program's result. -/
abbrev r' : DevRef τ sig := Proc.devRef .tc (main_v10 : Ref sig .tc)

variable (m : (ℓ : Loc nD τ sig) → Buf (Elt F) ℓ) (ρ : Dev nD → PrngReg)

/-- The first argument on device `d`. -/
abbrev arg0 (d : Dev nD) : Vec F S5x5 .f32 := m ((SparseCore.T d).loc main_arg0)
/-- The second argument on device `d`. -/
abbrev arg1 (d : Dev nD) : Vec F S5x5 .f32 := m ((SparseCore.T d).loc main_arg1)
/-- The third argument on device `d`. -/
abbrev arg2 (d : Dev nD) : IVec S5 32 := m ((SparseCore.T d).loc main_arg2)
/-- The padded `y` on device `d`. -/
abbrev yV (d : Dev nD) : Vec F S5x16 .f32 := padRows (arg0 m d)
/-- The padded `x` on device `d`. -/
abbrev xV (d : Dev nD) : Vec F S5x16 .f32 := padRows (arg1 m d)
/-- The padded index words on device `d`. -/
abbrev iV (d : Dev nD) : IVec S16 32 := padWords (arg2 m d)
/-- The output array's contents at launch on device `d`. -/
abbrev oV (d : Dev nD) : Vec F S5x16 .f32 := m ((SparseCore.T d).loc main_v9)
/-- What the call leaves in the output array on device `d`. -/
abbrev outV (d : Dev nD) : Vec F S5x16 .f32 := padded (yV m d) (xV m d) (iV m d)

/-- The TensorCore's arrays when the call is reached. -/
def V1 (d : Dev nD) : Valuation τ sig (Elt F) := after preOps (launchContents m d)
/-- The TensorCore's arrays when the call returns: the output array is at `padded` of the three inputs. -/
def V2 (d : Dev nD) : Valuation τ sig (Elt F) := Function.update (V1 m d) o' (outV m d)

/-- When the call is reached, `y` is padded. -/
theorem V1_y (d : Dev nD) : V1 m d y' = yV m d := by unfold V1 preOps; after_results; rfl
/-- When the call is reached, `x` is padded. -/
theorem V1_x (d : Dev nD) : V1 m d x' = xV m d := by unfold V1 preOps; after_results; rfl
/-- When the call is reached, the index words are padded. -/
theorem V1_i (d : Dev nD) : V1 m d i' = iV m d := by unfold V1 preOps; after_results; rfl
/-- When the call is reached, the output array is as at launch. -/
theorem V1_o (d : Dev nD) : V1 m d o' = oV m d := by unfold V1 preOps; after_results
/-- When the call is reached, the first argument is as at launch. -/
theorem V1_a0 (d : Dev nD) : V1 m d a0' = arg0 m d := by unfold V1 preOps; after_results
/-- When the call is reached, the second argument is as at launch. -/
theorem V1_a1 (d : Dev nD) : V1 m d a1' = arg1 m d := by unfold V1 preOps; after_results
/-- When the call is reached, the third argument is as at launch. -/
theorem V1_a2 (d : Dev nD) : V1 m d a2' = arg2 m d := by unfold V1 preOps; after_results

/-- When the call returns, the output array is at `padded` of the three inputs. -/
theorem V2_o (d : Dev nD) : V2 m d o' = outV m d := Function.update_self _ _ _
/-- The call changes no other array. -/
theorem V2_ne (d : Dev nD) {b : DevRef τ sig} (h : b ≠ o') : V2 m d b = V1 m d b := Function.update_of_ne h _ _

/-- The TensorCore's arrays after the slice. -/
def V3 (d : Dev nD) : Valuation τ sig (Elt F) := opSlice.result (V2 m d)

/-- After the slice the result is `sliced` of the arguments. -/
theorem V3_r (d : Dev nD) : V3 m d r' = sliced (arg0 m d) (arg1 m d) (arg2 m d) := by
  unfold V3
  rw [show opSlice.result (V2 m d) r' = extractStridedSlice S5x5 ![0, 0] (V2 m d o') slices_S5x16_S5x5_0_0 from
    StableHlo.unary_result .., V2_o]
  rfl
/-- After the slice the first argument is as at launch. -/
theorem V3_a0 (d : Dev nD) : V3 m d a0' = arg0 m d :=
  ((opSlice (F := F)).result_of_not_mem (V2 m d) (b := a0') (show a0' ∉ ({r'} : Finset (DevRef τ sig)) by decide)).trans
    ((V2_ne m d (show a0' ≠ o' by decide)).trans (V1_a0 m d))
/-- After the slice the second argument is as at launch. -/
theorem V3_a1 (d : Dev nD) : V3 m d a1' = arg1 m d :=
  ((opSlice (F := F)).result_of_not_mem (V2 m d) (b := a1') (show a1' ∉ ({r'} : Finset (DevRef τ sig)) by decide)).trans
    ((V2_ne m d (show a1' ≠ o' by decide)).trans (V1_a1 m d))
/-- After the slice the third argument is as at launch. -/
theorem V3_a2 (d : Dev nD) : V3 m d a2' = arg2 m d :=
  ((opSlice (F := F)).result_of_not_mem (V2 m d) (b := a2') (show a2' ∉ ({r'} : Finset (DevRef τ sig)) by decide)).trans
    ((V2_ne m d (show a2' ≠ o' by decide)).trans (V1_a2 m d))

/-! ## The call's payload -/

/-- SparseCore 0 and its tile 0 carry the four arrays, the output at its old contents on the way in and at `padded` on
the way out; every other core and tile carries nothing. -/
def P : (K (F := F)).Pay (nD := nD) (Val := Elt F) (Name := ℕ) (U := UU) where
  st := fun _ d c => share d c.val 0 (yV m d) (xV m d) (iV m d) (oV m d)
  dn := fun _ d c => share d c.val 0 (yV m d) (xV m d) (iV m d) (outV m d)
  go := fun _ d c i => share d c.val i.val (yV m d) (xV m d) (iV m d) (oV m d)
  td := fun _ d c i => share d c.val i.val (yV m d) (xV m d) (iV m d) (outV m d)
  x := fun _ _ => iprop(emp)

/-- A tile's share can be sent through a handshake. -/
instance share_storable (d : Dev nD) (c i : ℕ) (y x : Vec F S5x16 .f32) (ix : Vec F S16 .i32) (o : Vec F S5x16 .f32) :
    BI.Storable (upEmb : UEmb _ 𝕄) (share d c i y x ix o) := by
  unfold share fourPts; split <;> infer_instance

/-- So can the whole payload. -/
instance P_storable : (P (F := F) m).IsStorable where
  st _ d c := by unfold P; infer_instance
  dn _ d c := by unfold P; infer_instance
  go _ d c i := by unfold P; infer_instance
  td _ d c i := by unfold P; infer_instance

/-! ## The launch theorem's obligation for the tiles -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at its grid point. -/
theorem defs₀_vector (c : Fin τ.nSC) (s : Fin τ.nSub) :
    defs₀ (F := F) (.scVector c s) 0 ()
      = SparseCore.onTile hcore0 hsub0 (fun c s => cc0__sc_index_copy (coordsV c s) yW (Memref.isWhole_whole _) xW (Memref.isWhole_whole _)
          iW (Memref.isWhole_whole _) oW (Memref.isWhole_whole _) sY (Memref.isWhole_whole _) sO (Memref.isWhole_whole _) sI (Memref.isWhole_whole _)
          cc0_scoped0 cc0_scoped1 cc0_scoped2 cc0_scoped3) ⟨⟩ c s := rfl

omit [FloatOps F] in
/-- A body that waited on no handshake meets the launch theorem's weaker demand on its waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's run of the call, at a symbolic SparseCore and tile. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (yV m d) (xV m d) (iV m d) (oV m d) O W hO).trans (wp_mono frame _ _ fun _ => obl_post)

omit [FloatOps F] in
/-- Nothing, as often as one likes, is nothing. -/
theorem bigSep_emp' {I : Type} (s : Finset I) : (bigSep s fun _ => iprop(emp)) = (iprop(emp) : sProp 𝕄) := bigSep_emp_const s

/-- The shares of a SparseCore's tiles are tile 0's. -/
theorem shares_eq (d : Dev nD) (c : ℕ) (y x : Vec F S5x16 .f32) (ix : Vec F S16 .i32) (o : Vec F S5x16 .f32) :
    (bigSep Finset.univ fun i : Fin ((K (F := F)).nSub 0) => share d c i.val y x ix o) = share d c 0 y x ix o := by
  show (bigSep (Finset.univ : Finset (Fin 16)) fun i => share d c i.val y x ix o) = _
  rw [SparseCore.bigSep_erase' (Finset.mem_univ (0 : Fin 16)),
    bigSep_congr (s := Finset.univ.erase (0 : Fin 16)) (Ψ := fun _ => (iprop(emp) : sProp 𝕄)) (fun i hi => show share d c i.val y x ix o = iprop(emp) from if_neg fun h =>
      (Finset.mem_erase.mp hi).1 (Fin.ext h.2)), bigSep_emp']
  exact sep_emp_eq _

/-- A SparseCore's payload is its tiles' payloads, on the way in and on the way out. -/
theorem vecSplit : (K (F := F)).VecSplit' (P m) 0 := by
  intro d c
  show share d c.val 0 (yV m d) (xV m d) (iV m d) (oV m d) ⊢ |={Set.univ}=> iprop(
      (bigSep Finset.univ fun i : Fin ((K (F := F)).nSub 0) => share d c.val i.val (yV m d) (xV m d) (iV m d) (oV m d))
      ∗ ((bigSep Finset.univ fun i : Fin ((K (F := F)).nSub 0) => share d c.val i.val (yV m d) (xV m d) (iV m d) (outV m d))
          -∗ share d c.val 0 (yV m d) (xV m d) (iV m d) (outV m d)))
  rw [shares_eq, shares_eq]
  iintro H; imodintro
  isplitl [H]; · iexact H
  iintro H; iexact H

/-! ## The launch element: the handshakes' rounds; nothing of the kernel's own -/

/-- The launch element. -/
def u₀ : UU := (initOf (K (F := F)).hsCells (K (F := F)).hsToks, 1)

/-- It gives the handshakes their rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays. -/
abbrev SS : Finset (DevRef τ sig) := Pipeline.ucRefs τ sig
/-- The four the call takes. -/
abbrev S4 : Finset (DevRef τ sig) := {y', x', i', o'}
/-- The four the claim is about. -/
abbrev SF : Finset (DevRef τ sig) := {a0', a1', a2', r'}

/-- The call's four arrays are the TensorCore's. -/
theorem S4_sub : S4 ⊆ SS := by decide
/-- The claim's four arrays are the TensorCore's. -/
theorem SF_sub : SF ⊆ SS := by decide

omit [FloatOps F] in
/-- The call's four arrays, one by one. -/
theorem held_S4 (d : Dev nD) (W : Valuation τ sig (Elt F)) :
    (held (SparseCore.T d) S4 W : sProp 𝕄) = iprop((yLoc d ↦{fullShare} W y') ∗ (xLoc d ↦{fullShare} W x') ∗ (iLoc d ↦{fullShare} W i') ∗ (oLoc d ↦{fullShare} W o')) := by
  unfold held S4
  rw [SparseCore.bigSep_insert' (by decide), SparseCore.bigSep_insert' (by decide), SparseCore.bigSep_insert' (by decide), bigSep_singleton]

omit [FloatOps F] in
/-- The claim's four arrays, one by one. -/
theorem held_SF (d : Dev nD) (W : Valuation τ sig (Elt F)) :
    (held (SparseCore.T d) SF W : sProp 𝕄) = iprop(((SparseCore.T d).loc main_arg0 ↦{fullShare} W a0') ∗ ((SparseCore.T d).loc main_arg1 ↦{fullShare} W a1')
      ∗ ((SparseCore.T d).loc main_arg2 ↦{fullShare} W a2') ∗ ((SparseCore.T d).loc main_v10 ↦{fullShare} W r')) := by
  unfold held SF
  rw [SparseCore.bigSep_insert' (by decide), SparseCore.bigSep_insert' (by decide), SparseCore.bigSep_insert' (by decide), bigSep_singleton]

/-- What the call takes for the two SparseCores: the four arrays for the first, nothing for the second. -/
theorem st0_eq (d : Dev nD) : (bigSep Finset.univ fun c : Fin ((K (F := F)).nCore 0) => (P m).st 0 d c) = iprop(fourPts d (yV m d) (xV m d) (iV m d) (oV m d) ∗ emp) := by
  show (bigSep (Finset.univ : Finset (Fin 2)) fun c => share d c.val 0 (yV m d) (xV m d) (iV m d) (oV m d)) = _
  rw [show (Finset.univ : Finset (Fin 2)) = {0, 1} by decide, SparseCore.bigSep_insert' (by decide), bigSep_singleton]
  rfl
/-- What the call hands back for the two SparseCores. -/
theorem dn0_eq (d : Dev nD) : (bigSep Finset.univ fun c : Fin ((K (F := F)).nCore 0) => (P m).dn 0 d c) = iprop(fourPts d (yV m d) (xV m d) (iV m d) (outV m d) ∗ emp) := by
  show (bigSep (Finset.univ : Finset (Fin 2)) fun c => share d c.val 0 (yV m d) (xV m d) (iV m d) (outV m d)) = _
  rw [show (Finset.univ : Finset (Fin 2)) = {0, 1} by decide, SparseCore.bigSep_insert' (by decide), bigSep_singleton]
  rfl

/-- What @main leaves the claim: the three arguments at their launch contents, the result at `sliced` of them. -/
def FIN (d : Dev nD) : sProp 𝕄 :=
  iprop(((SparseCore.T d).loc main_arg0 ↦{fullShare} arg0 m d) ∗ ((SparseCore.T d).loc main_arg1 ↦{fullShare} arg1 m d)
    ∗ ((SparseCore.T d).loc main_arg2 ↦{fullShare} arg2 m d) ∗ ((SparseCore.T d).loc main_v10 ↦{fullShare} sliced (arg0 m d) (arg1 m d) (arg2 m d)))

/-- The four arrays when the call is reached are what it takes. -/
theorem call_in (d : Dev nD) : (held (SparseCore.T d) S4 (V1 m d) : sProp 𝕄) = fourPts d (yV m d) (xV m d) (iV m d) (oV m d) := by
  rw [held_S4, V1_y, V1_x, V1_i, V1_o]; rfl

/-- What the call hands back, beside the other arrays, is the TensorCore's arrays when it returns. -/
theorem call_out (d : Dev nD) :
    iprop(fourPts d (yV m d) (xV m d) (iV m d) (outV m d) ∗ held (SparseCore.T d) (SS \ S4) (V1 m d)) = (held (SparseCore.T d) SS (V2 m d) : sProp 𝕄) := by
  rw [held_sub_split (SparseCore.T d) S4_sub (V2 m d), held_S4, V2_o, V2_ne m d (show y' ≠ o' by decide), V2_ne m d (show x' ≠ o' by decide),
    V2_ne m d (show i' ≠ o' by decide), V1_y, V1_x, V1_i,
    held_congr (SparseCore.T d) (S := SS \ S4) (V := V2 m d) (V' := V1 m d) (fun b hb => V2_ne m d fun e => (Finset.mem_sdiff.mp hb).2 (by rw [e]; decide))]
  rfl

/-- The arguments and the result after the slice. -/
theorem fin_eq (d : Dev nD) : (held (SparseCore.T d) SF (V3 m d) : sProp 𝕄) = FIN m d := by
  rw [held_SF, V3_a0, V3_a1, V3_a2, V3_r]; rfl

/-- The operations before the call touch the TensorCore's arrays only. -/
theorem preOps_sub : ∀ op ∈ preOps (F := F), op.bufs ⊆ SS := by
  intro op h
  refine Pipeline.sub_ucRefs op ?_
  simp only [preOps, List.mem_cons, List.not_mem_nil, or_false] at h
  rcases h with rfl | rfl | rfl | rfl | rfl | rfl | rfl | rfl | rfl | rfl | rfl | rfl | rfl | rfl | rfl <;> simp

/-- They allocate nothing. -/
theorem preOps_fresh : ∀ op ∈ preOps (F := F), op.fresh = ∅ := by
  intro op h
  simp only [preOps, List.mem_cons, List.not_mem_nil, or_false] at h
  rcases h with rfl | rfl | rfl | rfl | rfl | rfl | rfl | rfl | rfl | rfl | rfl | rfl | rfl | rfl | rfl <;> rfl

/-- The slice touches the TensorCore's arrays only. -/
theorem opSlice_sub : (opSlice (F := F)).bufs ⊆ SS := Pipeline.sub_ucRefs _ (by simp)

/-- @main on device `d`'s TensorCore: the padding, the call from the four arrays, the slice. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) SS (launchContents m d) from
    Pipeline.unscopedBufs_held d (launchContents m d), main_eq]
  iintro ⟨#Hctx, Hst, ⟨Hb, Hheld, Hts, -⟩, -⟩
  iapply (wp_seq 𝒱 (bd := none) (E := Set.univ) d SS _ preOps preOps_sub preOps_fresh (launchContents m d)) $$ [Hb Hheld]
  · isplitl [Hb] <;> iassumption
  iintro ⟨Hb, Hheld⟩
  simp only [wp_bind, wp_pure]
  ihave Hh := (show (held (d.tc : Thread nD τ) SS (after preOps (launchContents m d)) : sProp 𝕄) ⊢ _ from
    Entails.of_eq (held_sub_split (SparseCore.T d) S4_sub (V1 m d))) $$ Hheld
  icases Hh with ⟨H4, Hrest⟩
  iapply ((K (F := F)).wp_run (D (F := F)) 𝒱 (EH := EH) (P := P m) κ d 0) $$ [Hst H4 Hb Hrest Hts]
  isplitr; · iexact Hctx
  isplitl [Hst]; · iexact Hst
  isplitl [H4]
  · rw [st0_eq]
    isplitl [H4]; · iapply (Entails.of_eq (call_in m d)); iexact H4
    iempintro
  iintro ⟨Hst, Hdn⟩
  ihave Hdn' := (Entails.of_eq (dn0_eq m d)) $$ Hdn
  icases Hdn' with ⟨H4, -⟩
  iapply (wp_hlo_within 𝒱 (SparseCore.T d) none Set.univ (op := opSlice) (S := SS) opSlice_sub (V := V2 m d)) $$ [Hb H4 Hrest]
  · isplitl [Hb]; · iexact Hb
    iapply (Entails.of_eq (call_out m d))
    isplitl [H4] <;> iassumption
  iintro ⟨Hb, Hheld⟩
  ihave Hh := (show (held (SparseCore.T d) SS ((opSlice (F := F)).result (V2 m d)) : sProp 𝕄) ⊢ _ from
    Entails.of_eq (held_sub_split (SparseCore.T d) SF_sub (V3 m d))) $$ Hheld
  icases Hh with ⟨HF, -⟩
  rw [wp_ret]; imodintro; imodintro
  isplitl [Hst]; · iexact Hst
  isplitr [Hb Hts]
  · iapply (Entails.of_eq (fin_eq m d)); iexact HF
  isplitl [Hb] <;> iassumption

/-- What the final state of device `d` is read for. -/
def fq (d : Dev nD) (s' : Phys nD τ sig (Elt F)) : Prop :=
  s'.mem.mem ((SparseCore.T d).loc main_v10) = sliced (arg0 m d) (arg1 m d) (arg2 m d)
    ∧ s'.mem.mem ((SparseCore.T d).loc main_arg0) = arg0 m d ∧ s'.mem.mem ((SparseCore.T d).loc main_arg1) = arg1 m d
    ∧ s'.mem.mem ((SparseCore.T d).loc main_arg2) = arg2 m d

/-- What @main leaves, read at the final state. -/
theorem hfin (d : Dev nD) (s' : Phys nD τ sig (Elt F)) : iprop(FIN m d ∗ SI s') ⊢ (⌜fq m d s'⌝ : sProp 𝕄) := by
  unfold FIN
  iintro ⟨⟨H0, H1, H2, Hr⟩, HSI⟩
  icombine HSI H0 gives %h0
  icombine HSI H1 gives %h1
  icombine HSI H2 gives %h2
  icombine HSI Hr gives %hr
  ipureintro
  exact ⟨funext fun i => hr i (Finset.mem_univ i), funext fun i => h0 i (Finset.mem_univ i), funext fun i => h1 i (Finset.mem_univ i),
    funext fun i => h2 i (Finset.mem_univ i)⟩

/-! ## The program's run -/

/-- Every device ends with its result at `sliced` of its arguments and its arguments unchanged; every semaphore is zero. -/
def QC : PUnit × MemSt nD τ sig (Elt F) → Prop := fun r =>
  (∀ d : Dev nD, r.2.mem ((SparseCore.T d).loc main_v10) = sliced (arg0 m d) (arg1 m d) (arg2 m d)
    ∧ r.2.mem ((SparseCore.T d).loc main_arg0) = arg0 m d ∧ r.2.mem ((SparseCore.T d).loc main_arg1) = arg1 m d
    ∧ r.2.mem ((SparseCore.T d).loc main_arg2) = arg2 m d) ∧ r.2.sem = fun _ => 0

/-- Every execution of the whole program terminates, in a state as `QC` says: the result on every device at `sliced` of its
arguments, the arguments unchanged, every semaphore at zero. At any float instance. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Launch

end
-- ==== Proof.ResultIdeal.lean ====
/-
  The kernel's result is the reference's. At row `r`, lane `c` below five, both are the five candidate rows written in
  order over the old one: the kernel's padding is seen through (`pad_rows`, `pad_words`), the reference's scatter is read at
  the index (`row_scatter`), and where no index word lies in -5 … -1 the two agree on the row each word names.
-/
module

public import proofs.«01_k».proof.Defs
public import proofs.«01_k».proof.Proof.LaunchIdeal
public import proofs.«01_k».proof.Proof.Scatter
public import proofs.«01_k».proof.Proof.Gen.ReferenceIdeal
public import proofs.«01_k».proof.Proof.Gen.ReferenceIdeal.Run
public import proofs.«01_k».proof.Proof.Gen.Pre_none_wraps

@[expose] public section

noncomputable section

namespace Cert.KernelIdeal.Result

open Idealize.ShloMosaic Idealize.ShloMosaic.ValueIdx Cert.Overwrite Cert.Scatter Cert.KernelIdeal.Launch

variable {F : FTy → Type} [FloatOps F]

/-- The reference's result as one term of its three arguments: the rows scattered to the index words, negative words counted
from the end. -/
def scattered (a0 a1 : Vec F Cert.ReferenceIdeal.S5x5 .f32) (a2 : IVec Cert.ReferenceIdeal.S5 32) : Vec F Cert.ReferenceIdeal.S5x5 .f32 :=
  Host.scatter Cert.ReferenceIdeal.scatter_S5x5_S5x1_S5x5_1_0_0_1 (fun _ b => b) a1
    (broadcastInDim Cert.ReferenceIdeal.S5x1 ![0] Cert.ReferenceIdeal.Facts₀.bcast_S5_S5x1_0
      (select (cmpi .slt a2 (broadcastInDim Cert.ReferenceIdeal.S5 ![] Cert.ReferenceIdeal.Facts₀.bcast_S_S5 (constantI Cert.ReferenceIdeal.S_ 32 0#32)))
        (addi a2 (broadcastInDim Cert.ReferenceIdeal.S5 ![] Cert.ReferenceIdeal.Facts₀.bcast_S_S5 (constantI Cert.ReferenceIdeal.S_ 32 5#32))) a2)) a0

/-- The kernel's result at row `r`, lane `c`: the five rows of the first argument written in order over the second's. -/
theorem sliced_at (a0 a1 : Vec F S5x5 .f32) (a2 : IVec S5 32) (r c : Fin 5) :
    sliced a0 a1 a2 (ix2 r c) = overwrite (fun i => a2 (ix1 i)) (fun i => a0 (ix2 i c)) r.val (a1 (ix2 r c)) := by
  have hj : sliced a0 a1 a2 (ix2 r c) = padded (padRows a0) (padRows a1) (padWords a2) (ix2 r (c.castLE (by decide) : Fin 16)) := by
    refine extractStridedSlice_apply ![0, 0] (padded (padRows a0) (padRows a1) (padWords a2)) _ (ix2 r c) _ fun q => ?_
    match q with
    | ⟨0, _⟩ => exact (Nat.zero_add _).symm
    | ⟨1, _⟩ => exact (Nat.zero_add _).symm
  have hw : ∀ i : Fin 5, padWords a2 (ix1 (i.castLE (by decide) : Fin 16)) = a2 (ix1 i) := fun i =>
    pad_words _ rfl rfl rfl rfl _ _ (fun _ => rfl) a2 i
  have hr : ∀ (a : Vec F S5x5 .f32) (i : Fin 5), padRows a (ix2 i (c.castLE (by decide) : Fin 16)) = a (ix2 i c) := fun a i =>
    pad_rows _ rfl rfl rfl rfl _ _ (fun _ => rfl) a i c
  rw [hj]
  show overwrite (fun i => padWords a2 (ix1 (i.castLE (by decide) : Fin 16))) (fun i => padRows a0 (ix2 i (c.castLE (by decide) : Fin 16)))
    r.val (padRows a1 (ix2 r (c.castLE (by decide) : Fin 16))) = _
  rw [hr a1 r, funext hw, funext (hr a0)]

/-- The reference's result at row `r`, lane `c`, where no index word lies in -5 … -1: the same. -/
theorem scattered_at (a0 a1 : Vec F S5x5 .f32) (a2 : IVec S5 32) (r c : Fin 5)
    (h : ∀ i : Fin 5, IntOp.ori (IntOp.cmpi .sge (a2 (ix1 i)) 0#32) (IntOp.cmpi .slt (a2 (ix1 i)) 4294967291#32) = 1#1) :
    scattered a0 a1 a2 (ix2 r c) = overwrite (fun i => a2 (ix1 i)) (fun i => a0 (ix2 i c)) r.val (a1 (ix2 r c)) := by
  refine (row_scatter _ rfl rfl rfl rfl a1 _ a0 r c).trans ?_
  refine congrArg (fun f => (List.finRange 5).foldl f (a1 (ix2 r c))) (funext fun acc => funext fun i => ?_)
  have hi : (broadcastInDim Cert.ReferenceIdeal.S5x1 ![0] Cert.ReferenceIdeal.Facts₀.bcast_S5_S5x1_0
      (select (cmpi .slt a2 (broadcastInDim Cert.ReferenceIdeal.S5 ![] Cert.ReferenceIdeal.Facts₀.bcast_S_S5 (constantI Cert.ReferenceIdeal.S_ 32 0#32)))
        (addi a2 (broadcastInDim Cert.ReferenceIdeal.S5 ![] Cert.ReferenceIdeal.Facts₀.bcast_S_S5 (constantI Cert.ReferenceIdeal.S_ 32 5#32))) a2))
      (ix2 i (0 : Fin 1)) = wrapped (a2 (ix1 i)) := by
    have e : ∀ v : IVec S5 32, broadcastInDim Cert.ReferenceIdeal.S5x1 ![0] Cert.ReferenceIdeal.Facts₀.bcast_S5_S5x1_0 v (ix2 i (0 : Fin 1)) = v (ix1 i) := by
      intro v
      refine congrArg v (funext fun q => ?_)
      match q with
      | ⟨0, _⟩ => rfl
    rw [e]
    rfl
  rw [hi]
  exact if_congr (wrapped_eq_row _ (h i) r) rfl rfl

/-- Where no index word lies in -5 … -1, the kernel's result is the reference's. -/
theorem sliced_eq (a0 a1 : Vec F S5x5 .f32) (a2 : IVec S5 32) (h : Cert.Pre_none_wraps.fn a0 a1 a2 = fun _ => 1#1) :
    sliced a0 a1 a2 = scattered a0 a1 a2 := by
  funext j
  obtain ⟨r, c, rfl⟩ : ∃ r c : Fin 5, j = ix2 r c := ⟨j 0, j 1, eq_ix2 j⟩
  exact (sliced_at a0 a1 a2 r c).trans (scattered_at a0 a1 a2 r c fun i => congrFun h (ix1 i)).symm

end Cert.KernelIdeal.Result

end
-- ==== Proof.lean ====
/-
  The proof of `Cert.Claim`. Proof/Overwrite.lean has the closed form of the result, Proof/Rows.lean the rows the body
  computes, Proof/Tile.lean one tile's run, Proof/Launch.lean the whole program's, Proof/Scatter.lean the host's scatters,
  Proof/Result.lean that the kernel's result is the reference's. The modules named …Ideal are these for the idealized
  programs. Here the claims are read off.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_none_wraps
public import proofs.«01_k».proof.Proof.Result
public import proofs.«01_k».proof.Proof.ResultIdeal
public import Idealize.ShloMosaic.Lib.Quiescent
public import Idealize.ShloMosaic.Adequacy
public import Idealize.ShloMosaic.Init

@[expose] public section

noncomputable section

namespace Cert.Proof

open Idealize.ShloMosaic Idealize.SL.Sem

/-! ## Bit for bit -/

/-- The kernel terminates with its arguments unchanged and every semaphore at zero: its run with the value dropped. -/
theorem frame_Kernel : Cert.quiescent_Kernel := fun m ρ _ =>
  (θ_run Cert.Kernel.defs _ _).mono (fun _ h => ⟨fun c => (h.1 c).2, h.2⟩) (Cert.Kernel.Launch.run_main (F := Bits) m ρ)

/-- The reference terminates with its arguments unchanged; it declares no semaphore. -/
theorem frame_Reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Where no index word lies in -5 … -1, both end with the same result on every device: the kernel's `sliced` of the arguments is
the reference's scatter of them (`sliced_eq`). -/
theorem value_Kernel : Cert.bitexact_Kernel_Reference_pre_none_wraps := by
  intro m ρ m' ρ' hpre hagree
  refine ⟨fun d => Cert.Kernel.Launch.sliced (Cert.Kernel.Launch.arg0 m d) (Cert.Kernel.Launch.arg1 m d) (Cert.Kernel.Launch.arg2 m d), ?_, ?_⟩
  · exact (θ_run Cert.Kernel.defs _ _).mono (fun _ h c => h.1 c) (Cert.Kernel.Launch.run_main (F := Bits) m ρ)
  · refine (θ_run Cert.Reference.defs _ _).mono (fun _ h c => ⟨(h c).1.trans ?_, (h c).2⟩) (Cert.Reference.Value.run (F := Bits) m' ρ')
    rw [(hagree c).1, (hagree c).2.1, (hagree c).2.2]
    exact (Cert.Kernel.Result.sliced_eq _ _ _ (hpre c)).symm

/-! ## On the extended reals -/

/-- The kernel terminates with its arguments unchanged and every semaphore at zero: its run with the value dropped. -/
theorem frame_KernelIdeal : Cert.quiescent_KernelIdeal := fun m ρ _ =>
  (θ_run Cert.KernelIdeal.defs _ _).mono (fun _ h => ⟨fun c => (h.1 c).2, h.2⟩) (Cert.KernelIdeal.Launch.run_main (F := Ideal) m ρ)

/-- The reference terminates with its arguments unchanged; it declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where no index word lies in -5 … -1, both end with the same result on every device: the kernel's `sliced` of the arguments is
the reference's scatter of them (`sliced_eq`). -/
theorem value_KernelIdeal : Cert.algebraic_KernelIdeal_ReferenceIdeal_pre_none_wraps := by
  intro m ρ m' ρ' hpre hagree
  refine ⟨fun d => Cert.KernelIdeal.Launch.sliced (Cert.KernelIdeal.Launch.arg0 m d) (Cert.KernelIdeal.Launch.arg1 m d) (Cert.KernelIdeal.Launch.arg2 m d), ?_, ?_⟩
  · exact (θ_run Cert.KernelIdeal.defs _ _).mono (fun _ h c => h.1 c) (Cert.KernelIdeal.Launch.run_main (F := Ideal) m ρ)
  · refine (θ_run Cert.ReferenceIdeal.defs _ _).mono (fun _ h c => ⟨(h c).1.trans ?_, (h c).2⟩) (Cert.ReferenceIdeal.Value.run (F := Ideal) m' ρ')
    rw [(hagree c).1, (hagree c).2.1, (hagree c).2.2]
    exact (Cert.KernelIdeal.Result.sliced_eq _ _ _ (hpre c)).symm

/-- Everything claimed. A frame under the precondition is the frame without it; the idealization rewrote nothing. -/
theorem claim : Cert.Claim :=
  ⟨Cert.Kernel.Gen.facts, Cert.KernelIdeal.Gen.facts, Cert.Reference.Gen.facts, Cert.ReferenceIdeal.Gen.facts, Cert.Pre_none_wraps.Gen.facts,
    frame_Kernel, fun m ρ _ => frame_Kernel m ρ trivial, frame_KernelIdeal, fun m ρ _ => frame_KernelIdeal m ρ trivial,
    frame_Reference, fun m ρ _ => frame_Reference m ρ trivial, frame_ReferenceIdeal, fun m ρ _ => frame_ReferenceIdeal m ρ trivial,
    trivial, value_Kernel, value_KernelIdeal⟩

end Cert.Proof

end
